-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x512x512 : Shape := ⟨4, ![8, 64, 512, 512]⟩
abbrev S512 : Shape := ⟨1, ![512]⟩
abbrev S512x1 : Shape := ⟨2, ![512, 1]⟩
abbrev S256 : Shape := ⟨1, ![256]⟩
abbrev S1x256 : Shape := ⟨2, ![1, 256]⟩
abbrev S_ : Shape := ⟨0, ![]⟩
abbrev S512x256 : Shape := ⟨2, ![512, 256]⟩
abbrev S4x128x256 : Shape := ⟨3, ![4, 128, 256]⟩
abbrev S8x64x255x255 : Shape := ⟨4, ![8, 64, 255, 255]⟩
abbrev S1x16x512x128 : Shape := ⟨4, ![1, 16, 512, 128]⟩
abbrev S1x16x255x255 : Shape := ⟨4, ![1, 16, 255, 255]⟩
abbrev S1x1x255x128 : Shape := ⟨4, ![1, 1, 255, 128]⟩
abbrev S255x128 : Shape := ⟨2, ![255, 128]⟩
abbrev S1x128x256 : Shape := ⟨3, ![1, 128, 256]⟩
abbrev S128x256 : Shape := ⟨2, ![128, 256]⟩
abbrev S255x256 : Shape := ⟨2, ![255, 256]⟩
abbrev S255x255 : Shape := ⟨2, ![255, 255]⟩
abbrev S1x1x255x255 : Shape := ⟨4, ![1, 1, 255, 255]⟩

abbrev nBuf : Space → Nat
  | .hbm => 29
  | .vmem => 11
  | .smem => 0
  | _ => 0

abbrev bufTy : (tb : Table) → Fin (tcTables nBuf tb) → BufTy
  | .hbm, ⟨0, _⟩ => ⟨S8x64x512x512, .f32⟩
  | .hbm, ⟨1, _⟩ => ⟨S512, .i32⟩
  | .hbm, ⟨2, _⟩ => ⟨S512x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i32⟩
  | .hbm, ⟨8, _⟩ => ⟨S512x256, .i32⟩
  | .hbm, ⟨9, _⟩ => ⟨S512x256, .i32⟩
  | .hbm, ⟨10, _⟩ => ⟨S512x256, .i32⟩
  | .hbm, ⟨11, _⟩ => ⟨S_, .i32⟩
  | .hbm, ⟨12, _⟩ => ⟨S512x256, .i32⟩
  | .hbm, ⟨13, _⟩ => ⟨S512x256, .i1⟩
  | .hbm, ⟨14, _⟩ => ⟨S_, .i32⟩
  | .hbm, ⟨15, _⟩ => ⟨S512x256, .i32⟩
  | .hbm, ⟨16, _⟩ => ⟨S512x256, .i1⟩
  | .hbm, ⟨17, _⟩ => ⟨S512x256, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S512x256, .bf16⟩
  | .hbm, ⟨27, _⟩ => ⟨S4x128x256, .bf16⟩
  | .hbm, ⟨28, _⟩ => ⟨S8x64x255x255, .f32⟩
  | .local _ .vmem, ⟨0, _⟩ => ⟨S1x16x512x128, .f32⟩
  | .local _ .vmem, ⟨1, _⟩ => ⟨S1x16x512x128, .f32⟩
  | .local _ .vmem, ⟨2, _⟩ => ⟨S1x16x512x128, .f32⟩
  | .local _ .vmem, ⟨3, _⟩ => ⟨S1x16x512x128, .f32⟩
  | .local _ .vmem, ⟨4, _⟩ => ⟨S1x16x512x128, .f32⟩
  | .local _ .vmem, ⟨5, _⟩ => ⟨S1x16x512x128, .f32⟩
  | .local _ .vmem, ⟨6, _⟩ => ⟨S1x16x512x128, .f32⟩
  | .local _ .vmem, ⟨7, _⟩ => ⟨S1x16x512x128, .f32⟩
  | .local _ .vmem, ⟨8, _⟩ => ⟨S4x128x256, .bf16⟩
  | .local _ .vmem, ⟨9, _⟩ => ⟨S1x16x255x255, .f32⟩
  | .local _ .vmem, ⟨10, _⟩ => ⟨S1x16x255x255, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, arg1.toNat, c0_i32.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, arg1.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, arg1.toNat, c0_i32.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x255x255 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x64x512x512 : Shape := ⟨4, ![8, 64, 512, 512]⟩
abbrev S_ : Shape := ⟨0, ![]⟩
abbrev S8x64x255x255 : Shape := ⟨4, ![8, 64, 255, 255]⟩

abbrev nBuf : Space → Nat
  | .hbm => 7
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S_, .f32⟩
  | .hbm, ⟨2, _⟩ => ⟨S_, .f32⟩
  | .hbm, ⟨3, _⟩ => ⟨S8x64x255x255, .f32⟩
  | .hbm, ⟨4, _⟩ => ⟨S_, .f32⟩
  | .hbm, ⟨5, _⟩ => ⟨S8x64x255x255, .f32⟩
  | .hbm, ⟨6, _⟩ => ⟨S8x64x255x255, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Pool.lean ====
/-
  The pool as mathematics over the extended reals: the sum over a window, the divisor nine and products with its
  reciprocal, and the sum of four slabs of columns against the column pooling matrix.
-/
module

public import Idealize.ShloMosaic.PureOps.Ideal
public import Idealize.ShloMosaic.Lib.IdealHost
public import Idealize.ShloMosaic.Lib.Pointwise

@[expose] public section

noncomputable section

namespace Cert.Pool

open Idealize.ShloMosaic

/-- The pattern of nine is nine. -/
theorem ofBits_nine : Ideal.ofBits .f32 0x41100000#32 = (9 : EReal) := by
  rw [show (9 : EReal) = ((9 : ℝ) : EReal) by norm_cast]
  simp [Ideal.ofBits, Ideal.ieee, -EReal.coe_mul]; norm_num

/-- At the extended reals a quotient by nine is a product with the reciprocal of nine. -/
theorem div_nine (x : EReal) : Ideal.div x 9 = x * 9⁻¹ := by
  unfold Ideal.div
  rw [if_neg (by norm_num)]

/-- The reciprocal of nine distributes over a sum of any two extended reals: it is positive and finite. -/
theorem add_mul_ninth (a b : EReal) : (a + b) * (9 : EReal)⁻¹ = a * 9⁻¹ + b * 9⁻¹ := by
  refine EReal.right_distrib_of_nonneg_of_ne_top (EReal.inv_nonneg_of_nonneg (by norm_num)) ?_ a b
  exact (EReal.inv_lt_top _).ne

/-- The sum over window `(i, j)` of plane `(b, ch)`: rows `2 i` to `2 i + 2`, columns `2 j` to `2 j + 2`. -/
def windowSum (x : (⟨4, ![8, 64, 512, 512]⟩ : Shape).Idx → EReal) (b : Fin 8) (ch : Fin 64) (i j : Fin 255) : EReal :=
  ∑ p : Fin 3, ∑ q : Fin 3, x (ix4 b ch ⟨2 * i.val + p.val, by omega⟩ ⟨2 * j.val + q.val, by omega⟩)

/-- The column pooling matrix: row `w`, column `j` is the reciprocal of nine when `w` is one of `2 j`, `2 j + 1` and
    `2 j + 2`, else zero. -/
def band (w j : ℕ) : EReal := if 2 * j ≤ w ∧ w < 2 * j + 3 then 9⁻¹ else 0

/-- A sum over 512 columns is the sum over four slabs of 128 columns. -/
theorem sum_slabs (f : Fin 512 → EReal) :
    ∑ w, f w = ∑ s : Fin 4, ∑ k : Fin 128, f ⟨128 * s.val + k.val, by omega⟩ := by
  rw [← (finProdFinEquiv (m := 4) (n := 128)).sum_comp f, Fintype.sum_prod_type]
  refine Finset.sum_congr rfl fun s _ => Finset.sum_congr rfl fun k _ => congrArg f (Fin.ext ?_)
  simp [finProdFinEquiv, Nat.add_comm]

/-- A row of 512 columns against column `j` of the matrix: its three columns under the window, times the reciprocal of
    nine. -/
theorem sum_band (f : Fin 512 → EReal) (j : Fin 255) :
    ∑ w, f w * band w.val j.val
      = (f ⟨2 * j.val, by omega⟩ + f ⟨2 * j.val + 1, by omega⟩ + f ⟨2 * j.val + 2, by omega⟩) * 9⁻¹ := by
  have hf : (Finset.univ.filter fun w : Fin 512 => 2 * j.val ≤ w.val ∧ w.val < 2 * j.val + 3)
      = {⟨2 * j.val, by omega⟩, ⟨2 * j.val + 1, by omega⟩, ⟨2 * j.val + 2, by omega⟩} := by
    ext w
    simp only [Finset.mem_filter, Finset.mem_univ, true_and, Finset.mem_insert, Finset.mem_singleton, Fin.ext_iff]
    omega
  simp only [band, mul_ite, mul_zero]
  rw [← Finset.sum_filter, hf, Finset.sum_insert (by simp), Finset.sum_insert (by simp), Finset.sum_singleton,
    add_mul_ninth, add_mul_ninth, add_assoc]

/-- THE LAW OF THE KERNEL: rows summed three by three, cut in four slabs of columns, each against its slab of the matrix,
    make the window's sum times the reciprocal of nine. -/
theorem slabs_eq_window (x : (⟨4, ![8, 64, 512, 512]⟩ : Shape).Idx → EReal) (b : Fin 8) (ch : Fin 64) (i j : Fin 255) :
    ∑ s : Fin 4, ∑ k : Fin 128,
        (x (ix4 b ch ⟨2 * i.val, by omega⟩ ⟨128 * s.val + k.val, by omega⟩)
          + x (ix4 b ch ⟨2 * i.val + 1, by omega⟩ ⟨128 * s.val + k.val, by omega⟩)
          + x (ix4 b ch ⟨2 * i.val + 2, by omega⟩ ⟨128 * s.val + k.val, by omega⟩))
        * band (128 * s.val + k.val) j.val
      = windowSum x b ch i j * 9⁻¹ := by
  refine (sum_slabs fun w => (x (ix4 b ch ⟨2 * i.val, by omega⟩ w) + x (ix4 b ch ⟨2 * i.val + 1, by omega⟩ w)
    + x (ix4 b ch ⟨2 * i.val + 2, by omega⟩ w)) * band w.val j.val).symm.trans ?_
  rw [sum_band fun w => x (ix4 b ch ⟨2 * i.val, by omega⟩ w) + x (ix4 b ch ⟨2 * i.val + 1, by omega⟩ w)
    + x (ix4 b ch ⟨2 * i.val + 2, by omega⟩ w)]
  congr 1
  simp only [windowSum, Fin.sum_univ_three, Fin.val_zero, Fin.val_one, Fin.val_two, Nat.add_zero]
  ac_rfl

end Cert.Pool
end
-- ==== Proof.Window.lean ====
/-
  The reference's sum over a window, at an index, and the reference's result: nine elements times the reciprocal of
  nine.
-/
module

public import proofs.«01_k».proof.Proof.Gen.ReferenceIdeal.Run
public import proofs.«01_k».proof.Proof.Pool
public import Idealize.ShloMosaic.Lib.Pointwise

@[expose] public section

set_option maxRecDepth 16384

noncomputable section

namespace Cert.ReferenceIdeal.Window

open Cert.Pool Cert.ReferenceIdeal Cert.ReferenceIdeal.Gen Idealize.ShloMosaic Idealize.ShloMosaic.TcCoe Idealize.SL.Sem

/-- A left fold of nine additions from zero is the sum over a three by three square, read by rows. -/
theorem fold_nine (f : Fin 9 → EReal) :
    List.foldl (fun r n => r + f n) 0 (List.finRange 9)
      = ∑ p : Fin 3, ∑ q : Fin 3, f ⟨3 * p.val + q.val, by omega⟩ := by
  simp [List.finRange_succ, Fin.sum_univ_three, add_assoc]

/-- The reference's window sum from a zero initial value, at an index. -/
theorem reduceWindow_apply (x : Vec Ideal S8x64x512x512 .f32) (z : Vec Ideal S_ .f32) (hz : ∀ k, z k = 0) (h h')
    (b : Fin 8) (ch : Fin 64) (i j : Fin 255) :
    Host.reduceWindowAdd (F := Ideal) (φ := .f32) (t := S8x64x255x255) ![1, 1, 3, 3] ![1, 1, 2, 2] ![0, 0, 0, 0] ![0, 0, 0, 0] x z h h' (ix4 b ch i j)
      = windowSum x b ch i j := by
  have hw : ∀ (n : Fin (⟨4, ![1, 1, 3, 3]⟩ : Shape).numel) (a : Fin 4),
      ((⟨4, ![1, 1, 3, 3]⟩ : Shape).rowMajor.symm n a).val = ![0, 0, n.val / 3, n.val % 3] a := by decide +kernel
  unfold Host.reduceWindowAdd
  rw [Ideal.hostReduceWindowAdd_def]
  unfold Ideal.hostReduceWindowAdd Host.reduceWindow
  simp only [hz]
  have hn9 : ∀ n : Fin (⟨4, ![1, 1, 3, 3]⟩ : Shape).numel, n.val < 9 := fun n => n.isLt
  have hp : ∀ (n : Fin (⟨4, ![1, 1, 3, 3]⟩ : Shape).numel) (a : Fin 4),
      (ix4 b ch i j a).val * ![1, 1, 2, 2] a + ((⟨4, ![1, 1, 3, 3]⟩ : Shape).rowMajor.symm n a).val - ![0, 0, 0, 0] a
        = (ix4 b ch (⟨2 * i.val + n.val / 3, by have := hn9 n; omega⟩ : Fin 512) (⟨2 * j.val + n.val % 3, by omega⟩ : Fin 512) a).val := by
    intro n a
    rw [hw]
    fin_cases a <;> simp <;> omega
  have hx : ∀ n : Fin (⟨4, ![1, 1, 3, 3]⟩ : Shape).numel, ∀ a : Fin 4,
      (ix4 b ch (⟨2 * i.val + n.val / 3, by have := hn9 n; omega⟩ : Fin 512) (⟨2 * j.val + n.val % 3, by omega⟩ : Fin 512) a).val
        < S8x64x512x512.size a := fun n a => Fin.isLt _
  refine (List.foldl_ext _ (fun r n => r + x (ix4 b ch (⟨2 * i.val + n.val / 3, by have := hn9 n; omega⟩ : Fin 512)
    (⟨2 * j.val + n.val % 3, by omega⟩ : Fin 512))) _ fun r n _ => congrArg (r + ·) ?_).trans ?_
  · refine (dif_pos fun a => ⟨?_, ?_⟩).trans (congrArg x (funext fun a => Fin.ext (hp n a)))
    · fin_cases a <;> exact Nat.zero_le _
    · exact lt_of_eq_of_lt (hp n a) (hx n a)
  · refine (fold_nine fun n : Fin 9 => x (ix4 b ch (⟨2 * i.val + n.val / 3, by omega⟩ : Fin 512)
      (⟨2 * j.val + n.val % 3, by omega⟩ : Fin 512))).trans ?_
    refine Finset.sum_congr rfl fun p _ => Finset.sum_congr rfl fun q _ => ?_
    congr 2 <;> exact Fin.ext (by simp only; omega)

/-- The reference's result at an index: the window's sum times the reciprocal of nine. -/
theorem result_apply (x : Vec Ideal S8x64x512x512 .f32) (h h') (b : Fin 8) (ch : Fin 64) (i j : Fin 255) :
    (Host.divf (F := Ideal) (φ := .f32) (Host.reduceWindowAdd (F := Ideal) (φ := .f32) (t := S8x64x255x255) ![1, 1, 3, 3] ![1, 1, 2, 2]
        ![0, 0, 0, 0] ![0, 0, 0, 0] x (broadcastInDim S_ ![] bcast_S_S_ (constant S_ .f32 0x00000000#32)) h h')
      (broadcastInDim S8x64x255x255 ![] bcast_S_S8x64x255x255 (constant S_ .f32 0x41100000#32))) (ix4 b ch i j)
      = windowSum x b ch i j * 9⁻¹ := by
  have e := reduceWindow_apply x (broadcastInDim S_ ![] bcast_S_S_ (constant (F := Ideal) S_ .f32 0x00000000#32 : Vec Ideal S_ .f32))
    (fun _ => Ideal.ofBits_zero_f32) h h' b ch i j
  refine (congrArg (Ideal.div · (Ideal.ofBits .f32 0x41100000#32)) e).trans ?_
  rw [ofBits_nine, div_nine]

end Cert.ReferenceIdeal.Window
end
-- ==== Proof.Matrix.lean ====
/-
  The column pooling matrix that the host computes before the launch, at an index.
-/
module

public import proofs.«01_k».proof.Proof.Gen.KernelIdeal.Value
public import proofs.«01_k».proof.Proof.Pool
public import Idealize.ShloMosaic.Lib.Pipeline.ValueKit
public import Idealize.ShloMosaic.Lib.StableHlo.ReadAt
public import Idealize.ShloMosaic.Lib.Pointwise
public import Idealize.ShloMosaic.Lib.WordCmp

@[expose] public section

set_option maxRecDepth 16384

noncomputable section

namespace Cert.KernelIdeal.Blocks

open Cert.Pool Cert.KernelIdeal Cert.KernelIdeal.Gen Idealize.ShloMosaic Idealize.ShloMosaic.TcCoe Idealize.SL.Sem

/-- The two signed comparisons of the word difference `w - 2 j` say that `w` is one of `2 j`, `2 j + 1`, `2 j + 2`. -/
theorem band_word (w j : ℕ) (hw : w < 512) (hj : j < 256) :
    IntOp.andi
        (IntOp.cmpi .sge (IntOp.subi (BitVec.ofNat 32 w) (IntOp.muli (2#32) (BitVec.ofNat 32 j))) 0#32)
        (IntOp.cmpi .slt (IntOp.subi (BitVec.ofNat 32 w) (IntOp.muli (2#32) (BitVec.ofNat 32 j))) 3#32)
      = BitVec.ofBool (decide (2 * j ≤ w ∧ w < 2 * j + 3)) := by
  have hd : (IntOp.subi (BitVec.ofNat 32 w) (IntOp.muli (2#32) (BitVec.ofNat 32 j))).toInt = (w : ℤ) - 2 * j := by
    unfold IntOp.subi IntOp.muli
    rw [BitVec.toInt_eq_toNat_cond]
    simp only [BitVec.toNat_sub, BitVec.toNat_mul, BitVec.toNat_ofNat]
    split <;> omega
  rw [WordCmp.cmpi_sge_eq, WordCmp.cmpi_slt_eq, hd, WordCmp.andi_ofBool, ← Bool.decide_and]
  congr 2
  rw [show (0#32).toInt = 0 by decide, show (3#32).toInt = 3 by decide, eq_iff_iff]
  omega

variable (m : (ℓ : Loc nD τ sig) → Buf (Elt Ideal) ℓ)

/-- The matrix at slab `s`, row `k`, column `j`: the reciprocal of nine on the three rows under window `j`, else zero. -/
theorem matrix_apply (c : Dev nD) (s : Fin 4) (k : Fin 128) (j : Fin 256) :
    (V m c main_v17 : Vec Ideal S4x128x256 .bf16) (ix3 s k j)
      = band (128 * s.val + k.val) j.val := by
  unfold V
  after_reads_at
  rw [band_word _ _ (by omega) (by omega), ofBits_nine, div_nine, one_mul, Nat.mul_comm s.val 128]
  unfold Scalar.select band
  simp only [WordCmp.ofBool_eq_one_iff', decide_eq_true_eq]
  split
  · rfl
  · exact Ideal.ofBits_zero_f32

end Cert.KernelIdeal.Blocks
end
-- ==== Proof.Body.lean ====
/-
  What one grid point stores: every channel of the output block, read at an index, as four sums over the columns of
  the four slabs.
-/
module

public import proofs.«01_k».proof.Proof.Gen.KernelIdeal.Value
public import Idealize.ShloMosaic.Lib.Pipeline.ValueKit
public import Idealize.ShloMosaic.Lib.Pipeline.ValueKit.Tiles
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

/-- The sum of rows `2 i`, `2 i + 1` and `2 i + 2` of channel `g` of a slab, at column `k`. -/
def rows3 (X : Vec Ideal S1x16x512x128 .f32) (g : Fin 16) (i : Fin 255) (k : Fin 128) : EReal :=
  X (ix4 0 g ⟨2 * i.val, by omega⟩ k) + X (ix4 0 g ⟨2 * i.val + 1, by omega⟩ k) + X (ix4 0 g ⟨2 * i.val + 2, by omega⟩ k)

/-- Slab `s`'s contribution to row `i`, column `j` of channel `g`: its summed rows against column `j` of the matrix's
    slab `s`. -/
def slabDot (X : Vec Ideal S1x16x512x128 .f32) (T : Vec Ideal S4x128x256 .bf16) (s : Fin 4) (g : Fin 16) (i j : Fin 255) :
    EReal :=
  ∑ k : Fin 128, rows3 X g i k * T (ix3 s k ⟨j.val, by omega⟩)

/-- The output block: the four slabs' contributions, added from the left. -/
def blockVal (X0 X1 X2 X3 : Vec Ideal S1x16x512x128 .f32) (T : Vec Ideal S4x128x256 .bf16) (g : Fin 16) (i j : Fin 255) :
    EReal :=
  slabDot X0 T 0 g i j + slabDot X1 T 1 g i j + slabDot X2 T 2 g i j + slabDot X3 T 3 g i j

/-- Row group `r` of channel `n` as the body loads it from a slab. -/
abbrev rowLoad (v : View sig .tc .vmem S1x16x512x128 .f32) (b : v.ty.Contents (Elt Ideal)) (n r : ℕ)
    (h : ∀ a, (![1, 1, 255, 128] : Fin 4 → ℕ) a = 0
      ∨ (![0, n, r, 0] : Fin 4 → ℕ) a + (![1, 1, 2, 1] : Fin 4 → ℕ) a * ((![1, 1, 255, 128] : Fin 4 → ℕ) a - 1) < S1x16x512x128.size a) :
    FVec Ideal S1x1x255x128 .f32 :=
  v.readAt (Elt Ideal) ⟨![0, n, r, 0], ![1, 1, 255, 128], ![1, 1, 2, 1], h⟩ b

/-- Slab `s` of the matrix as the body loads it. -/
abbrev matLoad (T : Vec Ideal S4x128x256 .bf16) (s : ℕ)
    (h : ∀ a, (![s, 0, 0] : Fin 3 → ℕ) a + (![1, 128, 256] : Fin 3 → ℕ) a ≤ S4x128x256.size a) : FVec Ideal S1x128x256 .bf16 :=
  View.ld T (Rect.unit ![s, 0, 0] ![1, 128, 256] h)

/-- One slab's product as the body computes it. -/
abbrev slabMat (A B C : FVec Ideal S1x1x255x128 .f32) (W : FVec Ideal S1x128x256 .bf16) : FVec Ideal S255x256 .f32 :=
  matmul dot_S255x128_S128x256_S255x256_1_0_0_1_n_n none
    (truncf FTy.bf16 (shapeCast S255x128 (addf (addf A B) C) shapeCasts_S1x1x255x128_S255x128) bitsLt_bf16_f32)
    (shapeCast S128x256 W shapeCasts_S1x128x256_S128x256)
    (constant S255x256 FTy.f32 0#32)

/-- Three loaded row groups added, narrowed and multiplied by a loaded slab of the matrix, at row `i` and column `j`. -/
theorem slab_apply (A B C : FVec Ideal S1x1x255x128 .f32) (W : FVec Ideal S1x128x256 .bf16) (i : Fin 255) (j : Fin 256) :
    slabMat A B C W (ix2 i j)
    = ∑ k : Fin 128, (A (ix4 0 0 i k) + B (ix4 0 0 i k) + C (ix4 0 0 i k)) * W (ix3 0 k j) := by
  pointwise

/-- A load of channel `g` at row offset `r` with row stride 2, at row `i` and column `k`. -/
theorem rowLoad_apply (v : View sig .tc .vmem S1x16x512x128 .f32) (b : v.ty.Contents (Elt Ideal)) (g r : ℕ) (hg : g < 16) (hr : r < 3)
    (h) (i : Fin 255) (k : Fin 128) :
    rowLoad v b g r h (ix4 0 0 i k)
      = v.read (Elt Ideal) b (ix4 0 ⟨g, hg⟩ ⟨2 * i.val + r, by omega⟩ k) := by
  refine congrArg (v.read (Elt Ideal) b) ?_
  funext a
  apply Fin.ext
  fin_cases a <;> simp [LoadRect.idx] <;> omega

/-- A load of slab `s` of the matrix, at row `k` and column `j`. -/
theorem matLoad_apply (T : Vec Ideal S4x128x256 .bf16) (s : ℕ) (hs : s < 4) (h) (k : Fin 128) (j : Fin 256) :
    matLoad T s h (ix3 0 k j) = T (ix3 ⟨s, hs⟩ k j) :=
  View.ld_unit_apply_of T _ _ h (ix3 0 k j) (ix3 ⟨s, hs⟩ k j) fun a => by fin_cases a <;> simp

/-- The stored channel `g`, at row and column: `blockVal`. -/
theorem tile_apply (M0 M1 M2 M3 : FVec Ideal S255x256 .f32) (x : S1x1x255x255.Idx) (i j : Fin 255)
    (hi : (x 2).val = i.val) (hj : (x 3).val = j.val) :
    shapeCast S1x1x255x255 (extractStridedSlice S255x255 ![0, 0] (addf (addf (addf M0 M1) M2) M3) slices_S255x256_o0_0_S255x255)
      shapeCasts_S255x255_S1x1x255x255 x
    = M0 (ix2 i ⟨j.val, by omega⟩) + M1 (ix2 i ⟨j.val, by omega⟩) + M2 (ix2 i ⟨j.val, by omega⟩) + M3 (ix2 i ⟨j.val, by omega⟩) := by
  idx_vars x
  obtain rfl : x2 = i := Fin.ext hi
  obtain rfl : x3 = j := Fin.ext hj
  pointwise

/-- The product of slab `s` for channel `n`, at an index: the slab's contribution. -/
theorem slab_eq (v : View sig .tc .vmem S1x16x512x128 .f32) (b : v.ty.Contents (Elt Ideal)) (X : Vec Ideal S1x16x512x128 .f32)
    (hv : v.read (Elt Ideal) b = X) (T : Vec Ideal S4x128x256 .bf16) (n s : ℕ) (g : Fin 16) (hn : n = g.val) (hs : s < 4)
    (h0 h1 h2 ht) (i j : Fin 255) :
    slabMat (rowLoad v b n 0 h0) (rowLoad v b n 1 h1) (rowLoad v b n 2 h2) (matLoad T s ht) (ix2 i ⟨j.val, by omega⟩)
      = slabDot X T ⟨s, hs⟩ g i j := by
  subst hv hn
  refine (slab_apply _ _ _ _ _ _).trans ?_
  unfold slabDot rows3
  refine Finset.sum_congr rfl fun k _ => ?_
  rw [rowLoad_apply v b g.val 0 g.isLt (by omega), rowLoad_apply v b g.val 1 g.isLt (by omega),
    rowLoad_apply v b g.val 2 g.isLt (by omega), matLoad_apply T s hs]
  rfl

/-- The piece stored for channel `n`: the four slabs' products added, cut to 255 columns, at row `i` and column `j`. -/
theorem channel_eq (v0 v1 v2 v3 : View sig .tc .vmem S1x16x512x128 .f32) (b0 : v0.ty.Contents (Elt Ideal))
    (b1 : v1.ty.Contents (Elt Ideal)) (b2 : v2.ty.Contents (Elt Ideal)) (b3 : v3.ty.Contents (Elt Ideal))
    (X0 X1 X2 X3 : Vec Ideal S1x16x512x128 .f32) (e0 : v0.read (Elt Ideal) b0 = X0) (e1 : v1.read (Elt Ideal) b1 = X1)
    (e2 : v2.read (Elt Ideal) b2 = X2) (e3 : v3.read (Elt Ideal) b3 = X3) (T : Vec Ideal S4x128x256 .bf16) (n : ℕ)
    (h00 h01 h02 h10 h11 h12 h20 h21 h22 h30 h31 h32 t0 t1 t2 t3)
    (x : S1x1x255x255.Idx) (g : Fin 16) (i j : Fin 255) (hn : n = g.val) (hi : (x 2).val = i.val) (hj : (x 3).val = j.val) :
    shapeCast S1x1x255x255 (extractStridedSlice S255x255 ![0, 0]
        (addf (addf (addf
          (slabMat (rowLoad v0 b0 n 0 h00) (rowLoad v0 b0 n 1 h01) (rowLoad v0 b0 n 2 h02) (matLoad T 0 t0))
          (slabMat (rowLoad v1 b1 n 0 h10) (rowLoad v1 b1 n 1 h11) (rowLoad v1 b1 n 2 h12) (matLoad T 1 t1)))
          (slabMat (rowLoad v2 b2 n 0 h20) (rowLoad v2 b2 n 1 h21) (rowLoad v2 b2 n 2 h22) (matLoad T 2 t2)))
          (slabMat (rowLoad v3 b3 n 0 h30) (rowLoad v3 b3 n 1 h31) (rowLoad v3 b3 n 2 h32) (matLoad T 3 t3)))
        slices_S255x256_o0_0_S255x255) shapeCasts_S255x255_S1x1x255x255 x
      = blockVal X0 X1 X2 X3 T g i j := by
  refine (tile_apply _ _ _ _ x i j hi hj).trans ?_
  exact congrArg₂ (· + ·) (congrArg₂ (· + ·) (congrArg₂ (· + ·)
    (slab_eq v0 b0 X0 e0 T n 0 g hn (by omega) h00 h01 h02 t0 i j)
    (slab_eq v1 b1 X1 e1 T n 1 g hn (by omega) h10 h11 h12 t1 i j))
    (slab_eq v2 b2 X2 e2 T n 2 g hn (by omega) h20 h21 h22 t2 i j))
    (slab_eq v3 b3 X3 e3 T n 3 g hn (by omega) h30 h31 h32 t3 i j)

set_option maxHeartbeats 1000000 in
/-- WHAT A GRID POINT STORES: the output block at channel `g`, row `i`, column `j` is `blockVal` of the point's four
    slabs and the matrix. -/
theorem out_apply (c : Dev nD) (p : grid0.Coords)
    (a2 : Memref sig .tc .vmem S1x16x512x128 .f32) (w2 : a2.IsWhole) (a3 : Memref sig .tc .vmem S1x16x512x128 .f32) (w3 : a3.IsWhole)
    (a4 : Memref sig .tc .vmem S1x16x512x128 .f32) (w4 : a4.IsWhole) (a5 : Memref sig .tc .vmem S1x16x512x128 .f32) (w5 : a5.IsWhole)
    (a6 : Memref sig .tc .vmem S4x128x256 .bf16) (w6 : a6.IsWhole) (a7 : Memref sig .tc .vmem S1x16x255x255 .f32) (w7 : a7.IsWhole)
    (X0 X1 X2 X3 : Vec Ideal S1x16x512x128 .f32) (T : Vec Ideal S4x128x256 .bf16) (y : S1x16x255x255.Idx)
    (g : Fin 16) (i j : Fin 255) (hg : (y 1).val = g.val) (hi : (y 2).val = i.val) (hj : (y 3).val = j.val) :
    out0_A_5 c p a2 w2 a3 w3 a4 w4 a5 w5 a6 w6 a7 w7 X0 X1 X2 X3 T y = blockVal X0 X1 X2 X3 T g i j := by
  frame_out
  canon_tiles x h
  all_goals
    open_payloads
    refine channel_eq a2.view a3.view a4.view a5.view _ _ _ _ X0 X1 X2 X3 (w2.read_unread X0) (w3.read_unread X1)
      (w4.read_unread X2) (w5.read_unread X3) T _ _ _ _ _ _ _ _ _ _ _ _ _ _ _ _ _ x g i j ?_ ?_ ?_ <;> omega

end Cert.KernelIdeal.Blocks
end
-- ==== Proof.Array.lean ====
/-
  The kernel's result array: every grid point's block placed in it, and the whole array as the window sums times the
  reciprocal of nine.
-/
module

public import proofs.«01_k».proof.Proof.Pool
public import proofs.«01_k».proof.Proof.Matrix
public import proofs.«01_k».proof.Proof.Body

@[expose] public section

set_option maxRecDepth 16384

noncomputable section

namespace Cert.KernelIdeal.Blocks

open Cert.Pool Cert.KernelIdeal Cert.KernelIdeal.Gen Idealize.ShloMosaic Idealize.ShloMosaic.TcCoe Idealize.SL.Sem

variable (m : (ℓ : Loc nD τ sig) → Buf (Elt Ideal) ℓ)

/-- Every window's block index at every point (decided). -/
theorem idx : ∀ t : Fin cfg0.N, win0_0.index t = ![t.val / 4, t.val % 4, 0, 0] ∧ win0_1.index t = ![t.val / 4, t.val % 4, 0, 1]
    ∧ win0_2.index t = ![t.val / 4, t.val % 4, 0, 2] ∧ win0_3.index t = ![t.val / 4, t.val % 4, 0, 3]
    ∧ win0_4.index t = ![0, 0, 0] ∧ win0_5.index t = ![t.val / 4, t.val % 4, 0, 0] :=
  (by decide +kernel : ∀ t : Fin grid0.N, _)

/-- The result array as a function of the argument. -/
def G (x : Vec Ideal S8x64x512x512 .f32) : Vec Ideal S8x64x255x255 .f32 :=
  fun y => windowSum x (y 0) (y 1) (y 2) (y 3) * 9⁻¹

/-- Slab 0 at point `t`: columns 0 to 127 of the point's sixteen planes. -/
theorem iblk0_apply (c : Dev nD) (t : Fin cfg0.N) (g : Fin 16) (r : Fin 512) (k : Fin 128) :
    (iblk m c 0 t : Vec Ideal S1x16x512x128 .f32) (ix4 0 g r k)
      = (m ((c : Thread nD τ).loc main_arg0) : Vec Ideal S8x64x512x512 .f32)
          (ix4 ⟨t.val / 4, by have h : t.val < 32 := t.isLt; omega⟩ ⟨16 * (t.val % 4) + g.val, by omega⟩ r ⟨128 * 0 + k.val, by omega⟩) := by
  rw [← V_main_arg0 m c]
  blk_ext [iblk, idx t]

/-- Slab 1 at point `t`: columns 128 to 255 of the point's sixteen planes. -/
theorem iblk1_apply (c : Dev nD) (t : Fin cfg0.N) (g : Fin 16) (r : Fin 512) (k : Fin 128) :
    (iblk m c 1 t : Vec Ideal S1x16x512x128 .f32) (ix4 0 g r k)
      = (m ((c : Thread nD τ).loc main_arg0) : Vec Ideal S8x64x512x512 .f32)
          (ix4 ⟨t.val / 4, by have h : t.val < 32 := t.isLt; omega⟩ ⟨16 * (t.val % 4) + g.val, by omega⟩ r ⟨128 * 1 + k.val, by omega⟩) := by
  rw [← V_main_arg0 m c]
  blk_ext [iblk, idx t]

/-- Slab 2 at point `t`: columns 256 to 383 of the point's sixteen planes. -/
theorem iblk2_apply (c : Dev nD) (t : Fin cfg0.N) (g : Fin 16) (r : Fin 512) (k : Fin 128) :
    (iblk m c 2 t : Vec Ideal S1x16x512x128 .f32) (ix4 0 g r k)
      = (m ((c : Thread nD τ).loc main_arg0) : Vec Ideal S8x64x512x512 .f32)
          (ix4 ⟨t.val / 4, by have h : t.val < 32 := t.isLt; omega⟩ ⟨16 * (t.val % 4) + g.val, by omega⟩ r ⟨128 * 2 + k.val, by omega⟩) := by
  rw [← V_main_arg0 m c]
  blk_ext [iblk, idx t]

/-- Slab 3 at point `t`: columns 384 to 511 of the point's sixteen planes. -/
theorem iblk3_apply (c : Dev nD) (t : Fin cfg0.N) (g : Fin 16) (r : Fin 512) (k : Fin 128) :
    (iblk m c 3 t : Vec Ideal S1x16x512x128 .f32) (ix4 0 g r k)
      = (m ((c : Thread nD τ).loc main_arg0) : Vec Ideal S8x64x512x512 .f32)
          (ix4 ⟨t.val / 4, by have h : t.val < 32 := t.isLt; omega⟩ ⟨16 * (t.val % 4) + g.val, by omega⟩ r ⟨128 * 3 + k.val, by omega⟩) := by
  rw [← V_main_arg0 m c]
  blk_ext [iblk, idx t]

/-- Window 4 is the whole matrix at every point. -/
theorem iblk4_apply (c : Dev nD) (t : Fin cfg0.N) (s : Fin 4) (k : Fin 128) (j : Fin 256) :
    (iblk m c 4 t : Vec Ideal S4x128x256 .bf16) (ix3 s k j) = band (128 * s.val + k.val) j.val := by
  rw [← matrix_apply m c s k j]
  blk_ext [iblk, idx t]

/-- The block a point computes, read at plane `g`, row `i`, column `j`, is the window's sum times the reciprocal of nine. -/
theorem block_eq (c : Dev nD) (t : Fin cfg0.N) (g : Fin 16) (i j : Fin 255) :
    blockVal (iblk m c 0 t) (iblk m c 1 t) (iblk m c 2 t) (iblk m c 3 t) (iblk m c 4 t) g i j
      = windowSum (m ((c : Thread nD τ).loc main_arg0)) ⟨t.val / 4, by have h : t.val < 32 := t.isLt; omega⟩
          ⟨16 * (t.val % 4) + g.val, by omega⟩ i j * 9⁻¹ := by
  rw [← slabs_eq_window, Fin.sum_univ_four]
  simp only [blockVal, slabDot, rows3, iblk0_apply, iblk1_apply, iblk2_apply, iblk3_apply, iblk4_apply]
  rfl

/-- The kernel's result array after the launch is the window sums times the reciprocal of nine. -/
theorem final (c : Dev nD) : (dats m 0 c).arrAt 5 cfg0.N = G (m ((c : Thread nD τ).loc main_arg0)) := by
  refine (dats m 0 c).arrAt_eq_of_covers 5 _ (by decide +kernel) fun t hf y => ?_
  blk_simp
  rw [after0_5]
  unfold outsAt0
  refine (out_apply c _ _ _ _ _ _ _ _ _ _ _ _ _ _ _ _ _ _ y (y 1) (y 2) (y 3) rfl rfl rfl).trans
    ((block_eq m c t (y 1) (y 2) (y 3)).trans ?_)
  have h0 : (y 0).val = 0 := by have h : (y 0).val < 1 := (y 0).isLt; omega
  unfold G
  congr 2 <;> refine Fin.ext ?_
  all_goals blk_simp [idx t]
  all_goals simp [h0]
  all_goals omega

end Cert.KernelIdeal.Blocks
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Window
public import proofs.«01_k».proof.Proof.Array
public import Idealize.ShloMosaic.Adequacy
public import Idealize.ShloMosaic.Init

@[expose] public section

noncomputable section

namespace Cert.Proof

open Idealize.ShloMosaic Idealize.SL.Sem Cert.Kernel

/-- Both programs run to the same array: at every index, the sum of the window's nine elements times the reciprocal of
    nine. -/
theorem claim : Cert.Claim := by
  refine ⟨Cert.Kernel.Gen.facts, Cert.KernelIdeal.Gen.facts, Cert.ReferenceIdeal.Gen.facts, ?_, ?_, ?_, ?_, ?_⟩
  · exact fun m g _ => Cert.Kernel.Gen.frame m g
  · exact fun m g _ => Cert.KernelIdeal.Gen.frame m g
  · exact fun m g _ => θ_run_mono (Cert.ReferenceIdeal.Value.run m g) fun r h =>
      ⟨fun c => (h c).2, sem_eq_zero_of_no_sems (by decide) r.2⟩
  · trivial
  · pair_intro
    · run_from Cert.KernelIdeal.Value.run_blocks m g
    · run_from Cert.ReferenceIdeal.Value.run m' g'
      rw [Cert.KernelIdeal.Blocks.final m c]
      funext y
      idx_vars y
      exact Cert.ReferenceIdeal.Window.result_apply _ _ _ _ _ _ _

end Cert.Proof

end
